-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S8x512x16384 : Shape := ⟨3, ![8, 512, 16384]⟩
abbrev S_ : Shape := ⟨0, ![]⟩

class Facts : Prop where
  bcast_S_S8x512x16384 : S_.BroadcastsInDim S8x512x16384 (![] : Fin 0 → Fin S8x512x16384.rank)

variable [Facts]

def fn {F : FTy → Type} [FloatOps F] (main_arg0 : FVec F S8x512x16384 .f32) : IVec S8x512x16384 1 :=
  let main_cst : FVec F S_ .f32 := constant S_ .f32 0x7F800000#32
  let main_v0 : FVec F S8x512x16384 .f32 := broadcastInDim S8x512x16384 ![] bcast_S_S8x512x16384 main_cst
  let main_v1 : IVec S8x512x16384 1 := cmpf .olt main_arg0 main_v0
  main_v1
-- ==== Kernel.lean ====
abbrev S8x512x16384 : Shape := ⟨3, ![8, 512, 16384]⟩
abbrev S4096x16384 : Shape := ⟨2, ![4096, 16384]⟩
abbrev S_ : Shape := ⟨0, ![]⟩
abbrev S256x256 : Shape := ⟨2, ![256, 256]⟩
abbrev S4096x512 : Shape := ⟨2, ![4096, 512]⟩
abbrev S4096x128 : Shape := ⟨2, ![4096, 128]⟩
abbrev S4096x1 : Shape := ⟨2, ![4096, 1]⟩
abbrev S4096x256 : Shape := ⟨2, ![4096, 256]⟩
abbrev S1x256 : Shape := ⟨2, ![1, 256]⟩

abbrev nBuf : Space → Nat
  | .hbm => 15
  | .vmem => 6
  | .smem => 0
  | _ => 0

abbrev bufTy : (tb : Table) → Fin (tcTables nBuf tb) → BufTy
  | .hbm, ⟨0, _⟩ => ⟨S8x512x16384, .f32⟩
  | .hbm, ⟨1, _⟩ => ⟨S4096x16384, .f32⟩
  | .hbm, ⟨2, _⟩ => ⟨S_, .bf16⟩
  | .hbm, ⟨3, _⟩ => ⟨S256x256, .bf16⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .bf16⟩
  | .hbm, ⟨11, _⟩ => ⟨S256x256, .bf16⟩
  | .hbm, ⟨12, _⟩ => ⟨S256x256, .bf16⟩
  | .hbm, ⟨13, _⟩ => ⟨S4096x16384, .f32⟩
  | .hbm, ⟨14, _⟩ => ⟨S8x512x16384, .f32⟩
  | .local _ .vmem, ⟨0, _⟩ => ⟨S4096x512, .f32⟩
  | .local _ .vmem, ⟨1, _⟩ => ⟨S4096x512, .f32⟩
  | .local _ .vmem, ⟨2, _⟩ => ⟨S256x256, .bf16⟩
  | .local _ .vmem, ⟨3, _⟩ => ⟨S4096x512, .f32⟩
  | .local _ .vmem, ⟨4, _⟩ => ⟨S4096x512, .f32⟩
  | .local _ .vmem, ⟨5, _⟩ => ⟨S4096x128, .f32⟩
  | _, _ => ⟨S8x512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x512x16384 : Shape := ⟨3, ![8, 512, 16384]⟩
abbrev S16384 : Shape := ⟨1, ![16384]⟩
abbrev S_ : Shape := ⟨0, ![]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S8x512x16384, .f32⟩
  | .hbm, ⟨1, _⟩ => ⟨S16384, .f32⟩
  | .hbm, ⟨2, _⟩ => ⟨S_, .f32⟩
  | .hbm, ⟨3, _⟩ => ⟨S16384, .f32⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S8x512x16384, .f32⟩
  | .hbm, ⟨8, _⟩ => ⟨S1x1x16384, .f32⟩
  | .hbm, ⟨9, _⟩ => ⟨S8x512x16384, .f32⟩
  | .hbm, ⟨10, _⟩ => ⟨S8x512x16384, .f32⟩
  | _, _ => ⟨S8x512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_call0_call0_cst : Ref sig .tc := ⟨.hbm, 5, rfl⟩
abbrev main_call0_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelBlock.lean ====
/- What one run of the kernel's body leaves in its output block and in the carried column, as the body's own payloads. -/
module

public import proofs.«01_k».proof.Proof.Gen.KernelIdeal.Frame
public import Idealize.ShloMosaic.Lib.Pipeline.Value
public import Idealize.ShloMosaic.Lib.ValueIdx
public import Idealize.ShloMosaic.Lib.Tactic

@[expose] public section

noncomputable section

namespace Cert.KernelIdeal.CumAvg

open Cert.KernelIdeal Cert.KernelIdeal.Gen Idealize.ShloMosaic Idealize.ShloMosaic.ValueIdx Idealize.ShloMosaic.TcCoe Idealize.SL.Sem

variable {F : FTy → Type} [FloatOps F]

theorem off_zero : (![0, 0] : Fin 2 → Nat) = fun _ => 0 := funext fun a => by fin_cases a <;> rfl

/-- The left half of an input block's columns. -/
abbrev lhalf (x : Vec F S4096x512 .f32) : Vec F S4096x256 .f32 :=
  View.ld x (Rect.unit (s := S4096x512) ![0, 0] S4096x256.size inb_S4096x512_S4096x256_0_0)
/-- The right half of an input block's columns. -/
abbrev rhalf (x : Vec F S4096x512 .f32) : Vec F S4096x256 .f32 :=
  View.ld x (Rect.unit (s := S4096x512) ![0, 256] S4096x256.size inb_S4096x512_S4096x256_0_256)
/-- The carried column: column 0 of the scratch. -/
abbrev col0 (s : Vec F S4096x128 .f32) : Vec F S4096x1 .f32 :=
  View.ld s (Rect.unit (s := S4096x128) ![0, 0] S4096x1.size inb_S4096x128_S4096x1_0_0)

/-- Away from the first point the scratch ends at the body's new carry. -/
theorem sout_B (c : Dev nD) (i : grid0.Coords) (a2 : Memref sig .tc .vmem S4096x512 .f32) (h2 : a2.IsWhole)
    (a3 : Memref sig .tc .vmem S256x256 .bf16) (h3 : a3.IsWhole) (a4 : Memref sig .tc .vmem S4096x512 .f32) (h4 : a4.IsWhole)
    (a5 : Memref sig .tc .vmem S4096x128 .f32) (h5 : a5.IsWhole) (hc : ¬cond0_0 i)
    (x0 : Vec F S4096x512 .f32) (x1 : Vec F S256x256 .bf16) (s : Vec F S4096x128 .f32) :
    sout0_B_0 c i a2 h2 a3 h3 a4 h4 a5 h5 hc x0 x1 s = k0_pay3 (k0_pay7 x1 (col0 s) (lhalf x0)) (k0_pay9 x1 (rhalf x0)) := by
  unfold sout0_B_0
  rw [View.read_writes_eq_canon _ _ _ (scover0_B_0 c i a2 h2 a3 h3 a4 h4 a5 h5 hc x0 x1 s)]
  unfold kernelRun0_B
  dsimp only
  sl_unfold_words
  rw [View.canon_unit_zero off_zero]
  simp only [View.readAt_eq_ld, h2.read_unread, h3.read_unread, h5.read_unread, View.ld_unit_zero (S := S256x256) off_zero]

/-- At the first point the scratch is set to zero first, so it ends at the carry over a zero column. -/
theorem sout_A (c : Dev nD) (i : grid0.Coords) (a2 : Memref sig .tc .vmem S4096x512 .f32) (h2 : a2.IsWhole)
    (a3 : Memref sig .tc .vmem S256x256 .bf16) (h3 : a3.IsWhole) (a4 : Memref sig .tc .vmem S4096x512 .f32) (h4 : a4.IsWhole)
    (a5 : Memref sig .tc .vmem S4096x128 .f32) (h5 : a5.IsWhole) (hc : cond0_0 i)
    (x0 : Vec F S4096x512 .f32) (x1 : Vec F S256x256 .bf16) :
    sout0_A_0 c i a2 h2 a3 h3 a4 h4 a5 h5 hc x0 x1 = k0_pay3 (k0_pay7 x1 (col0 k0_pay4) (lhalf x0)) (k0_pay9 x1 (rhalf x0)) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S4096x128) off_zero]
  simp only [View.readAt_eq_ld, h2.read_unread, h3.read_unread, View.ld_unit_zero (S := S256x256) off_zero]
  rw [View.readCov_eq_canon', View.canon_unit_zero off_zero]
  rfl

/-- Two blocks of columns side by side. -/
def paste (l r : Vec F S4096x256 .f32) : Vec F S4096x512 .f32 := fun y =>
  if h : (y 1).val < 256 then l (ix2 (y 0) ⟨(y 1).val, h⟩)
  else r (ix2 (y 0) ⟨(y 1).val - 256, by have : (y 1).val < 512 := (y 1).isLt; omega⟩)

/-- A buffer whose right half was stored last and whose left half was stored before holds the two side by side. -/
theorem canon_halves (l r : Vec F S4096x256 .f32) :
    View.canon (Val := Elt F) (e := .f32) [⟨Rect.unit (s := S4096x512) ![0, 256] S4096x256.size inb_S4096x512_S4096x256_0_256, r⟩,
      ⟨Rect.unit (s := S4096x512) ![0, 0] S4096x256.size inb_S4096x512_S4096x256_0_0, l⟩] = paste l r := by
  funext y
  have hy0 : (y 0).val < 4096 := (y 0).isLt
  have hy1 : (y 1).val < 512 := (y 1).isLt
  unfold paste
  by_cases h : (y 1).val < 256
  · rw [dif_pos h, View.canon_cons_of_not_mem]
    · have e : y = (Rect.unit (s := S4096x512) ![0, 0] S4096x256.size inb_S4096x512_S4096x256_0_0).emb (ix2 (y 0) ⟨(y 1).val, h⟩) := by
        funext a; apply Fin.ext
        match a with
        | ⟨0, _⟩ => show (y 0).val = 0 + 1 * (y 0).val; omega
        | ⟨1, _⟩ => show (y 1).val = 0 + 1 * (y 1).val; omega
      exact (congrArg _ e).trans (View.canon_cons_emb _ _ _ _)
    · intro hm
      have hm' : y ∈ (Rect.unit (s := S4096x512) ![0, 256] S4096x256.size inb_S4096x512_S4096x256_0_256).set := hm
      have := (Rect.mem_set_unit.mp hm' 1).1
      change 256 ≤ (y 1).val at this
      omega
  · rw [dif_neg h]
    have e : y = (Rect.unit (s := S4096x512) ![0, 256] S4096x256.size inb_S4096x512_S4096x256_0_256).emb
        (ix2 (y 0) ⟨(y 1).val - 256, by omega⟩) := by
      funext a; apply Fin.ext
      match a with
      | ⟨0, _⟩ => show (y 0).val = 0 + 1 * (y 0).val; omega
      | ⟨1, _⟩ => show (y 1).val = 256 + 1 * ((y 1).val - 256); omega
    exact (congrArg _ e).trans (View.canon_cons_emb _ _ _ _)

/-- Away from the first point the output block ends at the two halves' averages over the carry the scratch held. -/
theorem out_B (c : Dev nD) (i : grid0.Coords) (a2 : Memref sig .tc .vmem S4096x512 .f32) (h2 : a2.IsWhole)
    (a3 : Memref sig .tc .vmem S256x256 .bf16) (h3 : a3.IsWhole) (a4 : Memref sig .tc .vmem S4096x512 .f32) (h4 : a4.IsWhole)
    (a5 : Memref sig .tc .vmem S4096x128 .f32) (h5 : a5.IsWhole) (hc : ¬cond0_0 i)
    (x0 : Vec F S4096x512 .f32) (x1 : Vec F S256x256 .bf16) (s : Vec F S4096x128 .f32) :
    out0_B_2 c i a2 h2 a3 h3 a4 h4 a5 h5 hc x0 x1 s
      = paste (k0_pay8 i x1 (col0 s) (lhalf x0))
          (k0_pay2 (BitVec.ofNat 32 (i 1).val) (k0_pay7 x1 (col0 s) (lhalf x0)) (k0_pay9 x1 (rhalf x0))) := by
  unfold out0_B_2
  rw [View.read_writes_eq_canon _ _ _ (cover0_B_2 c i a2 h2 a3 h3 a4 h4 a5 h5 hc x0 x1 s)]
  unfold kernelRun0_B
  dsimp only
  sl_unfold_words
  simp only [View.readAt_eq_ld, h2.read_unread, h3.read_unread, h5.read_unread, View.ld_unit_zero (S := S256x256) off_zero]
  exact canon_halves _ _

/-- At the first point the output block ends at the two halves' averages over a zero carry. -/
theorem out_A (c : Dev nD) (i : grid0.Coords) (a2 : Memref sig .tc .vmem S4096x512 .f32) (h2 : a2.IsWhole)
    (a3 : Memref sig .tc .vmem S256x256 .bf16) (h3 : a3.IsWhole) (a4 : Memref sig .tc .vmem S4096x512 .f32) (h4 : a4.IsWhole)
    (a5 : Memref sig .tc .vmem S4096x128 .f32) (h5 : a5.IsWhole) (hc : cond0_0 i)
    (x0 : Vec F S4096x512 .f32) (x1 : Vec F S256x256 .bf16) :
    out0_A_2 c i a2 h2 a3 h3 a4 h4 a5 h5 hc x0 x1
      = paste (k0_pay8 i x1 (col0 k0_pay4) (lhalf x0))
          (k0_pay2 (BitVec.ofNat 32 (i 1).val) (k0_pay7 x1 (col0 k0_pay4) (lhalf x0)) (k0_pay9 x1 (rhalf x0))) := by
  unfold out0_A_2
  rw [View.read_writes_eq_canon _ _ _ (cover0_A_2 c i a2 h2 a3 h3 a4 h4 a5 h5 hc x0 x1)]
  unfold kernelRun0_A
  dsimp only
  sl_unfold_words
  simp only [View.readAt_eq_ld, h2.read_unread, h3.read_unread, View.ld_unit_zero (S := S256x256) off_zero]
  rw [View.readCov_eq_canon', View.canon_unit_zero off_zero]
  exact canon_halves _ _

end Cert.KernelIdeal.CumAvg

end
-- ==== Proof.PrefixSum.lean ====
/- Prefix sums over the extended reals: the mathematics the kernel and the reference meet in. -/
module

public import Mathlib.Data.EReal.Operations
public import Mathlib.Algebra.BigOperators.Fin
public import Mathlib.Algebra.BigOperators.Intervals

@[expose] public section

noncomputable section

namespace Cert.CumAvg

open scoped BigOperators

/-- A finite sequence continued by zero. -/
def ext {N : ℕ} (f : Fin N → EReal) (j : ℕ) : EReal := if h : j < N then f ⟨j, h⟩ else 0

theorem ext_of_lt {N : ℕ} (f : Fin N → EReal) {j : ℕ} (h : j < N) : ext f j = f ⟨j, h⟩ := dif_pos h

/-- The sum of the first `n` terms of a sequence. -/
def psum (g : ℕ → EReal) (n : ℕ) : EReal := ∑ i ∈ Finset.range n, g i

theorem psum_zero (g : ℕ → EReal) : psum g 0 = 0 := rfl

/-- A prefix sum splits at any place. -/
theorem psum_add (g : ℕ → EReal) (a b : ℕ) : psum g (a + b) = psum g a + psum (fun i => g (a + i)) b :=
  Finset.sum_range_add g a b

/-- Splitting a number into itself and its difference from itself, and adding the two, gives the number back — at every
    extended real but `⊤`, where the difference is `⊥` and so is the sum. -/
theorem split_add {x : EReal} (h : x ≠ ⊤) : x + (x - x) = x := by
  induction x using EReal.rec with
  | bot => exact EReal.bot_add _
  | coe r => norm_cast; ring
  | top => exact absurd rfl h

/-- A row times a column of the triangle of ones: the terms up to the column's number, summed. -/
theorem sum_tri {N : ℕ} (g : ℕ → EReal) (c : Fin N) :
    ∑ k : Fin N, g k.val * (if k.val ≤ c.val then 1 else 0) = psum g (c.val + 1) := by
  rw [Fin.sum_univ_eq_sum_range (fun n : ℕ => g n * (if n ≤ c.val then 1 else 0)) N]
  have e : ∀ n ∈ Finset.range N, g n * (if n ≤ c.val then 1 else 0) = if n ≤ c.val then g n else 0 := fun n _ => by
    split
    · exact mul_one _
    · exact mul_zero _
  rw [Finset.sum_congr rfl e, ← Finset.sum_filter]
  refine Finset.sum_congr (Finset.ext fun n => ?_) fun _ _ => rfl
  have := c.isLt
  rw [Finset.mem_filter, Finset.mem_range, Finset.mem_range]
  omega

/-- The same with each term split in two: the two products add up to the prefix sum. -/
theorem sum_tri_split {N : ℕ} (g : ℕ → EReal) (hg : ∀ n, g n ≠ ⊤) (c : Fin N) :
    ∑ k : Fin N, g k.val * (if k.val ≤ c.val then 1 else 0) + ∑ k : Fin N, (g k.val - g k.val) * (if k.val ≤ c.val then 1 else 0)
      = psum g (c.val + 1) := by
  rw [sum_tri g c, sum_tri (fun n => g n - g n) c]
  unfold psum
  rw [← Finset.sum_add_distrib]
  exact Finset.sum_congr rfl fun n _ => split_add (hg n)

/-- The terms a window of width `N` that ends at place `j` meets, summed: the terms up to `j`. -/
theorem sum_window {M : ℕ} (g : ℕ → EReal) {j : ℕ} (hj : j < M + 1) :
    ∑ n : Fin (M + 1), (if M ≤ j + n.val then g (j + n.val - M) else 0) = psum g (j + 1) := by
  rw [Fin.sum_univ_eq_sum_range (fun n : ℕ => if M ≤ j + n then g (j + n - M) else 0) (M + 1)]
  have hs : M + 1 = (M - j) + (j + 1) := by omega
  rw [hs, Finset.sum_range_add, Finset.sum_eq_zero (fun n hn => if_neg (by have := Finset.mem_range.mp hn; omega)), zero_add]
  refine Finset.sum_congr rfl fun n hn => ?_
  have := Finset.mem_range.mp hn
  rw [if_pos (by omega)]
  congr 1
  omega

end Cert.CumAvg

end
-- ==== Proof.KernelPayloads.lean ====
/- The body's payloads over the extended reals, read at an index: prefix sums of the block's rows over the carry, and their
   averages. -/
module

public import proofs.«01_k».proof.Proof.PrefixSum
public import proofs.«01_k».proof.Proof.Gen.KernelIdeal.Skeleton
public import Idealize.ShloMosaic.Lib.ValueIdx
public import Idealize.ShloMosaic.Lib.MatmulPlain
public import Idealize.ShloMosaic.Lib.Pipeline.Value

@[expose] public section

noncomputable section

namespace Cert.KernelIdeal.CumAvg

open Cert.KernelIdeal Cert.KernelIdeal.Gen Idealize.ShloMosaic Idealize.ShloMosaic.ValueIdx Cert.CumAvg
open scoped BigOperators

/-- The triangle of ones the kernel multiplies by: entry `(k, c)` is one where `k ≤ c` and zero elsewhere. -/
def IsTri (t : Vec Ideal S256x256 .bf16) : Prop := ∀ k c : Fin 256, t (ix2 k c) = if k.val ≤ c.val then (1 : EReal) else 0

/-- A block times the triangle, at an index. -/
theorem dot_apply {φ : FTy} (x : FVec Ideal S4096x256 φ) (t : Vec Ideal S256x256 .bf16) (r : Fin 4096) (c : Fin 256) :
    matmul dot_S4096x256_S256x256_S4096x256_1_0_0_1_n_n none x (k0_pay5 (F := Ideal) t) (constant S4096x256 .f32 0x00000000#32) (ix2 r c)
      = ∑ k : Fin 256, x (ix2 r k) * t (ix2 k c) := by
  have h := Ideal.matmul_plain_apply (M := 4096) (K := 256) (N := 256) none x (k0_pay5 (F := Ideal) t) (constant S4096x256 .f32 0x00000000#32) r c
  rw [constant_apply, Ideal.ofBits_zero_f32, zero_add] at h
  refine Eq.trans h (Finset.sum_congr rfl fun k _ => ?_)
  unfold k0_pay5
  rw [shapeCast_self]

/-- The part of the second half's sums that does not depend on the carry: the prefix sums of the block's rows. -/
theorem pay9_apply (t : Vec Ideal S256x256 .bf16) (ht : IsTri t) (x : Vec Ideal S4096x256 .f32) (g : ℕ → EReal) (hg : ∀ n, g n ≠ ⊤)
    (r : Fin 4096) (hx : ∀ k : Fin 256, x (ix2 r k) = g k.val) (c : Fin 256) :
    k0_pay9 (F := Ideal) t x (ix2 r c) = psum g (c.val + 1) := by
  unfold k0_pay9
  simp only [shapeCast_self]
  rw [addf_apply, dot_apply, dot_apply, ← sum_tri_split g hg c]
  refine congrArg₂ (· + ·) (Finset.sum_congr rfl fun k _ => ?_) (Finset.sum_congr rfl fun k _ => ?_)
  · rw [truncf_apply, hx, ht]
  · rw [truncf_apply, subf_apply, extf_apply, truncf_apply, hx, ht]

/-- The first half's sums: the prefix sums of the block's rows over the carry. -/
theorem pay6_apply (t : Vec Ideal S256x256 .bf16) (ht : IsTri t) (v : Vec Ideal S4096x1 .f32) (x : Vec Ideal S4096x256 .f32) (g : ℕ → EReal)
    (hg : ∀ n, g n ≠ ⊤) (r : Fin 4096) (hx : ∀ k : Fin 256, x (ix2 r k) = g k.val) (c : Fin 256) :
    k0_pay6 (F := Ideal) t v x (ix2 r c) = psum g (c.val + 1) + v (ix2 r 0) := by
  rw [← pay9_apply t ht x g hg r hx c]
  unfold k0_pay6
  rw [addf_apply]
  refine congrArg₂ (· + ·) rfl ?_
  exact broadcastTo_apply v _ _ _ fun a => by
    match a with
    | ⟨0, _⟩ => rfl
    | ⟨1, _⟩ => rfl

/-- The carry after the first half: the whole half's sum over the carry before it. -/
theorem pay7_apply (t : Vec Ideal S256x256 .bf16) (ht : IsTri t) (v : Vec Ideal S4096x1 .f32) (x : Vec Ideal S4096x256 .f32) (g : ℕ → EReal)
    (hg : ∀ n, g n ≠ ⊤) (r : Fin 4096) (hx : ∀ k : Fin 256, x (ix2 r k) = g k.val) :
    k0_pay7 (F := Ideal) t v x (ix2 r 0) = psum g 256 + v (ix2 r 0) := by
  rw [← pay6_apply t ht v x g hg r hx ⟨255, by decide⟩]
  unfold k0_pay7
  exact extractStridedSlice_apply _ _ _ _ _ fun a => by
    match a with
    | ⟨0, _⟩ => show r.val = 0 + r.val; omega
    | ⟨1, _⟩ => rfl

/-- The second half's sums, over the first half's carry. -/
theorem pay1_apply (u : FVec Ideal S4096x1 .f32) (w : FVec Ideal S4096x256 .f32) (r : Fin 4096) (c : Fin 256) :
    k0_pay1 (F := Ideal) u w (ix2 r c) = w (ix2 r c) + u (ix2 r 0) := by
  unfold k0_pay1
  rw [addf_apply]
  refine congrArg₂ (· + ·) rfl ?_
  exact broadcastTo_apply u _ _ _ fun a => by
    match a with
    | ⟨0, _⟩ => rfl
    | ⟨1, _⟩ => rfl

/-- The carry after the second half, spread over the scratch's columns. -/
theorem pay3_apply (u : FVec Ideal S4096x1 .f32) (w : FVec Ideal S4096x256 .f32) (r : Fin 4096) (l : Fin 128) :
    k0_pay3 (F := Ideal) u w (ix2 r l) = w (ix2 r ⟨255, by decide⟩) + u (ix2 r 0) := by
  rw [← pay1_apply u w r ⟨255, by decide⟩]
  unfold k0_pay3
  simp only [shapeCast_self]
  refine (broadcastTo_apply _ _ _ (ix2 r (0 : Fin 1)) fun a => ?_).trans ?_
  · match a with
    | ⟨0, _⟩ => rfl
    | ⟨1, _⟩ => rfl
  · exact extractStridedSlice_apply _ _ _ _ _ fun a => by
      match a with
      | ⟨0, _⟩ => show r.val = 0 + r.val; omega
      | ⟨1, _⟩ => rfl

/-- The count a column is divided by, as the body computes it from the point's number and the half's first column. -/
theorem count_toInt (n o c : ℕ) (hn : n < 32) (ho : o ≤ 256) (hc : c < 256) :
    (IntOp.addi (BitVec.ofNat 32 c) (Scalar.addi (Scalar.addi (Scalar.muli (BitVec.ofNat 32 n) 512#32) (BitVec.ofNat 32 o)) 1#32)).toInt
      = ((n * 512 + o + c + 1 : ℕ) : ℤ) := by
  have e : IntOp.addi (BitVec.ofNat 32 c) (Scalar.addi (Scalar.addi (Scalar.muli (BitVec.ofNat 32 n) 512#32) (BitVec.ofNat 32 o)) 1#32)
      = BitVec.ofNat 32 (n * 512 + o + c + 1) := by
    show BitVec.ofNat 32 c + (BitVec.ofNat 32 n * BitVec.ofNat 32 512 + BitVec.ofNat 32 o + BitVec.ofNat 32 1) = _
    rw [← BitVec.ofNat_mul, ← BitVec.ofNat_add, ← BitVec.ofNat_add, ← BitVec.ofNat_add]
    congr 1; omega
  rw [e, BitVec.toInt_eq_toNat_of_lt] <;> rw [BitVec.toNat_ofNat, Nat.mod_eq_of_lt (by omega)]
  omega

/-- The first half's averages. -/
theorem pay8_apply (i : grid0.Coords) (t : Vec Ideal S256x256 .bf16) (v : Vec Ideal S4096x1 .f32) (x : Vec Ideal S4096x256 .f32)
    (hi : (i 1).val < 32) (r : Fin 4096) (c : Fin 256) :
    k0_pay8 (F := Ideal) i t v x (ix2 r c)
      = Ideal.div (k0_pay6 (F := Ideal) t v x (ix2 r c)) ((((i 1).val * 512 + c.val + 1 : ℕ) : ℝ) : EReal) := by
  unfold k0_pay8
  rw [divf_apply]
  refine congrArg₂ Ideal.div rfl ?_
  refine (broadcastTo_apply _ _ _ (ix2 (0 : Fin 1) c) fun a => ?_).trans ?_
  · match a with
    | ⟨0, _⟩ => rfl
    | ⟨1, _⟩ => rfl
  · have h := count_toInt (i 1).val 0 c.val hi (by decide) c.isLt
    rw [sitofp_apply]
    refine (congrArg (fun b : BitVec 32 => ((b.toInt : ℝ) : EReal)) (congrArg₂ IntOp.addi (iota_single_apply ..) rfl)).trans ?_
    exact_mod_cast congrArg (fun z : ℤ => ((z : ℝ) : EReal)) h

/-- The second half's averages. -/
theorem pay2_apply (n : ℕ) (u : FVec Ideal S4096x1 .f32) (w : FVec Ideal S4096x256 .f32) (hn : n < 32) (r : Fin 4096) (c : Fin 256) :
    k0_pay2 (F := Ideal) (BitVec.ofNat 32 n) u w (ix2 r c)
      = Ideal.div (w (ix2 r c) + u (ix2 r 0)) (((n * 512 + 256 + c.val + 1 : ℕ) : ℝ) : EReal) := by
  rw [← pay1_apply u w r c]
  unfold k0_pay2
  rw [divf_apply]
  refine congrArg₂ Ideal.div rfl ?_
  refine (broadcastTo_apply _ _ _ (ix2 (0 : Fin 1) c) fun a => ?_).trans ?_
  · match a with
    | ⟨0, _⟩ => rfl
    | ⟨1, _⟩ => rfl
  · have h := count_toInt n 256 c.val hn le_rfl c.isLt
    rw [sitofp_apply]
    refine (congrArg (fun b : BitVec 32 => ((b.toInt : ℝ) : EReal)) (congrArg₂ IntOp.addi (iota_single_apply ..) rfl)).trans ?_
    exact_mod_cast congrArg (fun z : ℤ => ((z : ℝ) : EReal)) h

end Cert.KernelIdeal.CumAvg

end
-- ==== Proof.KernelStep.lean ====
/- One run of the body over the extended reals: from the prefix sums up to a block it makes the block's averages and the
   prefix sums up to the next block. -/
module

public import proofs.«01_k».proof.Proof.KernelBlock
public import proofs.«01_k».proof.Proof.KernelPayloads

@[expose] public section

noncomputable section

namespace Cert.CumAvg

open Idealize.ShloMosaic

/-- The average of the first `j + 1` terms of a sequence. -/
def avg (g : ℕ → EReal) (j : ℕ) : EReal := Ideal.div (psum g (j + 1)) (((j + 1 : ℕ) : ℝ) : EReal)

end Cert.CumAvg

namespace Cert.KernelIdeal.CumAvg

open Cert.KernelIdeal Cert.KernelIdeal.Gen Idealize.ShloMosaic Cert.CumAvg

/-- The left half of a block holds the rows' next 256 terms, -/
theorem lhalf_apply (x : Vec Ideal S4096x512 .f32) (g : Fin 4096 → ℕ → EReal) (b : ℕ)
    (hx : ∀ (r : Fin 4096) (l : Fin 512), x (ValueIdx.ix2 r l) = g r (b + l.val)) (r : Fin 4096) (k : Fin 256) :
    lhalf x (ValueIdx.ix2 r k) = g r (b + k.val) := by
  rw [← hx r ⟨k.val, by omega⟩]
  refine congrArg x (funext fun a => Fin.ext ?_)
  match a with
  | ⟨0, _⟩ => show 0 + 1 * r.val = r.val; omega
  | ⟨1, _⟩ => show 0 + 1 * k.val = k.val; omega

/-- and the right half the 256 after them. -/
theorem rhalf_apply (x : Vec Ideal S4096x512 .f32) (g : Fin 4096 → ℕ → EReal) (b : ℕ)
    (hx : ∀ (r : Fin 4096) (l : Fin 512), x (ValueIdx.ix2 r l) = g r (b + l.val)) (r : Fin 4096) (k : Fin 256) :
    rhalf x (ValueIdx.ix2 r k) = g r (b + 256 + k.val) := by
  rw [Nat.add_assoc, ← hx r ⟨256 + k.val, by omega⟩]
  refine congrArg x (funext fun a => Fin.ext ?_)
  match a with
  | ⟨0, _⟩ => show 0 + 1 * r.val = r.val; omega
  | ⟨1, _⟩ => show 256 + 1 * k.val = 256 + k.val; omega

/-- Column 0 of the scratch. -/
theorem col0_apply (s : Vec Ideal S4096x128 .f32) (r : Fin 4096) : col0 s (ValueIdx.ix2 r 0) = s (ValueIdx.ix2 r 0) :=
  congrArg s (funext fun a => Fin.ext (by
    match a with
    | ⟨0, _⟩ => show 0 + 1 * r.val = r.val; omega
    | ⟨1, _⟩ => rfl))

/-- The scratch the first point sets holds zeros. -/
theorem pay4_apply (y : S4096x128.Idx) : k0_pay4 (F := Ideal) y = 0 := by
  unfold k0_pay4
  rw [shapeCast_self]
  exact Ideal.ofBits_zero_f32

section

variable (i : grid0.Coords) (n : ℕ) (hi : (i 1).val = n) (hn : n < 32) (t : Vec Ideal S256x256 .bf16) (ht : IsTri t)
  (g : Fin 4096 → ℕ → EReal) (hg : ∀ r j, g r j ≠ ⊤) (x : Vec Ideal S4096x512 .f32)
  (hx : ∀ (r : Fin 4096) (l : Fin 512), x (ValueIdx.ix2 r l) = g r (n * 512 + l.val))
  (v : Vec Ideal S4096x1 .f32) (hv : ∀ r : Fin 4096, v (ValueIdx.ix2 r 0) = psum (g r) (n * 512))

include ht hg hx hv

/-- The carry between the halves: the prefix sum up to the second half. -/
theorem step_mid (r : Fin 4096) : k0_pay7 (F := Ideal) t v (lhalf x) (ValueIdx.ix2 r 0) = psum (g r) (n * 512 + 256) := by
  rw [pay7_apply t ht v (lhalf x) (fun j => g r (n * 512 + j)) (fun j => hg r _) r (fun k => lhalf_apply x g _ hx r k), hv, psum_add,
    add_comm]

/-- The carry the body leaves: the prefix sum up to the next block. -/
theorem step_carry (r : Fin 4096) (l : Fin 128) :
    k0_pay3 (F := Ideal) (k0_pay7 t v (lhalf x)) (k0_pay9 t (rhalf x)) (ValueIdx.ix2 r l) = psum (g r) ((n + 1) * 512) := by
  rw [pay3_apply, step_mid n t ht g hg x hx v hv r,
    pay9_apply t ht (rhalf x) (fun j => g r (n * 512 + 256 + j)) (fun j => hg r _) r (fun k => rhalf_apply x g _ hx r k),
    show (n + 1) * 512 = n * 512 + 256 + 256 by omega, psum_add _ (n * 512 + 256), add_comm]

include hi hn

/-- The block the body leaves: the rows' averages at its 512 places. -/
theorem step_out (r : Fin 4096) (l : Fin 512) :
    paste (F := Ideal) (k0_pay8 (F := Ideal) i t v (lhalf x)) (k0_pay2 (F := Ideal) (BitVec.ofNat 32 (i 1).val) (k0_pay7 t v (lhalf x)) (k0_pay9 t (rhalf x)))
      (ValueIdx.ix2 r l) = avg (g r) (n * 512 + l.val) := by
  subst hi
  have hl := l.isLt
  unfold paste avg
  by_cases h : l.val < 256
  · rw [dif_pos (show ((ValueIdx.ix2 r l : S4096x512.Idx) 1).val < 256 from h)]
    refine (pay8_apply i t v (lhalf x) hn r ⟨l.val, h⟩).trans ?_
    rw [pay6_apply t ht v (lhalf x) (fun j => g r ((i 1).val * 512 + j)) (fun j => hg r _) r (fun k => lhalf_apply x g _ hx r k), hv,
      add_comm, ← psum_add]
    rfl
  · rw [dif_neg (show ¬((ValueIdx.ix2 r l : S4096x512.Idx) 1).val < 256 from h)]
    refine (pay2_apply (i 1).val _ _ hn r ⟨l.val - 256, by omega⟩).trans ?_
    rw [step_mid (i 1).val t ht g hg x hx v hv r,
      pay9_apply t ht (rhalf x) (fun j => g r ((i 1).val * 512 + 256 + j)) (fun j => hg r _) r (fun k => rhalf_apply x g _ hx r k), add_comm,
      ← psum_add]
    have e : (i 1).val * 512 + 256 + (l.val - 256 + 1) = (i 1).val * 512 + l.val + 1 := by omega
    have e' : (i 1).val * 512 + 256 + (l.val - 256) + 1 = (i 1).val * 512 + l.val + 1 := by omega
    show Ideal.div (psum (g r) ((i 1).val * 512 + 256 + (l.val - 256 + 1))) (((((i 1).val * 512 + 256 + (l.val - 256) + 1 : ℕ)) : ℝ) : EReal) = _
    rw [e, e']

end

end Cert.KernelIdeal.CumAvg

end
-- ==== Proof.KernelInputs.lean ====
/- What the launch finds in its two operand arrays: the argument's rows, and the triangle of ones. -/
module

public import proofs.«01_k».proof.Proof.KernelPayloads
public import proofs.«01_k».proof.Proof.Gen.KernelIdeal.Frame
public import Idealize.ShloMosaic.Lib.StableHlo.ReadAt
public import Idealize.ShloMosaic.Lib.Pointwise
public import Idealize.ShloMosaic.Lib.Tactic.WordOmega

@[expose] public section

noncomputable section

namespace Cert.KernelIdeal.CumAvg

open Cert.KernelIdeal Cert.KernelIdeal.Gen Idealize.ShloMosaic Idealize.ShloMosaic.TcCoe Idealize.ShloMosaic.ValueIdx Cert.CumAvg

variable (m : (ℓ : Loc nD τ sig) → Buf (Elt Ideal) ℓ)

/-- The second operand is the triangle of ones. -/
theorem V_tri (c : Dev nD) : IsTri (V m c main_v2) := by
  intro k l
  unfold V V0
  simp only [hostOps0, hostOps0_1, List.flatten_cons, List.flatten_nil, List.append_nil, List.cons_append, List.nil_append]
  after_reads_at
  show Scalar.select (IntOp.cmpi .sge (IntOp.addi (BitVec.ofNat 32 k.val) 4294967295#32) (BitVec.ofNat 32 l.val)) (0 : EReal) 1 = _
  have hk := k.isLt
  have hl := l.isLt
  have h : IntOp.cmpi .sge (IntOp.addi (BitVec.ofNat 32 k.val) 4294967295#32) (BitVec.ofNat 32 l.val) = 1#1 ↔ ¬k.val ≤ l.val := by
    word_omega
  by_cases hkl : k.val ≤ l.val
  · rw [if_pos hkl, eq_zero_of_ne_one fun e => h.mp e hkl, select_zero]
  · rw [if_neg hkl, h.mpr hkl, select_one]

/-- The first operand is the argument with its first two axes made one. -/
theorem V_rows (c : Dev nD) (r : Fin 4096) (j : Fin 16384) :
    (V m c main_v0 : Vec Ideal S4096x16384 .f32) (ValueIdx.ix2 r j)
      = (m ((c : Thread nD τ).loc main_arg0) : Vec Ideal S8x512x16384 .f32)
          (ValueIdx.ix3 (⟨r.val / 512, by omega⟩ : Fin 8) (⟨r.val % 512, by omega⟩ : Fin 512) j) := by
  unfold V V0
  simp only [hostOps0, hostOps0_1, List.flatten_cons, List.flatten_nil, List.append_nil, List.cons_append, List.nil_append]
  after_reads_at
  rfl

end Cert.KernelIdeal.CumAvg

end
-- ==== Proof.KernelValue.lean ====
/- What the kernel's run leaves in its result: every row's running averages. -/
module

public import proofs.«01_k».proof.Proof.KernelStep
public import proofs.«01_k».proof.Proof.KernelInputs

@[expose] public section

noncomputable section

namespace Cert.KernelIdeal.CumAvg

open Cert.KernelIdeal Cert.KernelIdeal.Gen Idealize.ShloMosaic Idealize.ShloMosaic.TcCoe Idealize.SL.Sem Cert.CumAvg
open Idealize.ShloMosaic.Pipeline (Dat)

variable (m : (ℓ : Loc nD τ sig) → Buf (Elt Ideal) ℓ) (ρ : Dev nD → PrngReg)

/-- A row of the kernel's first operand, continued by zero. -/
def row (c : Dev nD) (r : Fin 4096) : ℕ → EReal :=
  ext fun j : Fin 16384 => (V m c main_v0 : Vec Ideal S4096x16384 .f32) (ValueIdx.ix2 r j)

theorem row_of_lt (c : Dev nD) (r : Fin 4096) {j : ℕ} (h : j < 16384) :
    row m c r j = (V m c main_v0 : Vec Ideal S4096x16384 .f32) (ValueIdx.ix2 r ⟨j, h⟩) := dif_pos h

/-- The argument holds no `⊤`. -/
def Below (c : Dev nD) : Prop := ∀ i, (m ((c : Thread nD τ).loc main_arg0) : Vec Ideal S8x512x16384 .f32) i ≠ (⊤ : EReal)

theorem row_ne_top {c : Dev nD} (h : Below m c) (r : Fin 4096) (j : ℕ) : row m c r j ≠ ⊤ := by
  unfold row ext
  split
  · exact (V_rows m c r _).trans_ne (h _)
  · exact EReal.zero_ne_top

/-! ## The blocks the body reads -/

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)

theorem lt_32 (t : Fin cfg0.N) : t.val < 32 := lt_of_lt_of_eq t.isLt N_0

/-- The second grid coordinate of a point is the point's number. -/
theorem coord_val (t : Fin cfg0.N) : (grid0.coords t 1).val = t.val := by
  have := lt_32 t
  have h : (grid0.coords t 1).val = t.val / 1 % 32 := Pipeline.Grid.coords_val t 1 (by decide) rfl
  omega

/-- The first window's block at a point, read off any contents of its array: the columns from 512 times the point's number on. -/
theorem read_blk0 (A : Vec Ideal S4096x16384 .f32) (t : Fin cfg0.N) (r : Fin 4096) (l : Fin 512) (h : t.val * 512 + l.val < 16384) :
    (((cfg0.win 0).blk t).view.read (Elt Ideal) A : Vec Ideal S4096x512 .f32) (ValueIdx.ix2 r l) = A (ValueIdx.ix2 r ⟨t.val * 512 + l.val, h⟩) := by
  rw [View.read_apply]
  refine congrArg A (funext fun a => Fin.ext ?_)
  match a with
  | ⟨0, _⟩ => show win0_0.index t (0 : Fin 2) * 4096 + 1 * r.val = r.val; rw [(idx0 t).1]; omega
  | ⟨1, _⟩ => show win0_0.index t (1 : Fin 2) * 512 + 1 * l.val = t.val * 512 + l.val; rw [(idx0 t).2]; omega

/-- The second window's block is its whole array at every point. -/
theorem read_blk1 (A : Vec Ideal S256x256 .bf16) (t : Fin cfg0.N) (k l : Fin 256) :
    (((cfg0.win 1).blk t).view.read (Elt Ideal) A : Vec Ideal S256x256 .bf16) (ValueIdx.ix2 k l) = A (ValueIdx.ix2 k l) := by
  rw [View.read_apply]
  refine congrArg A (funext fun a => Fin.ext ?_)
  match a with
  | ⟨0, _⟩ => show win0_1.index t (0 : Fin 2) * 256 + 1 * k.val = k.val; rw [(idx1 t).1]; omega
  | ⟨1, _⟩ => show win0_1.index t (1 : Fin 2) * 256 + 1 * l.val = l.val; rw [(idx1 t).2]; omega

/-- The first operand's block at a point holds the rows' terms from 512 times the point's number on. -/
theorem iblk_rows (c : Dev nD) (t : Fin cfg0.N) (r : Fin 4096) (l : Fin 512) :
    (iblk m c 0 t : Vec Ideal S4096x512 .f32) (ValueIdx.ix2 r l) = row m c r (t.val * 512 + l.val) := by
  have ht := lt_32 t
  have h : t.val * 512 + l.val < 16384 := by omega
  exact (read_blk0 (V m c main_v0) t r l h).trans (row_of_lt m c r h).symm

/-- The second operand's block is the triangle at every point. -/
theorem iblk_tri (c : Dev nD) (t : Fin cfg0.N) : IsTri (iblk m c 1 t : Vec Ideal S256x256 .bf16) := fun k l =>
  (read_blk1 (V m c main_v2) t k l).trans (V_tri m c k l)

/-! ## The induction over the points -/

/-- After point `n` the scratch holds the prefix sums up to the next block, and the output block the averages at the
    block's places. -/
theorem outsAt_eq {c : Dev nD} (hb : Below m c) : ∀ (n : ℕ) (hn : n < cfg0.N),
    (∀ (r : Fin 4096) (l : Fin 128), (outsAt0 m c n hn).2 (ValueIdx.ix2 r l) = psum (row m c r) ((n + 1) * 512))
    ∧ ∀ (r : Fin 4096) (l : Fin 512), (outsAt0 m c n hn).1 (ValueIdx.ix2 r l) = avg (row m c r) (n * 512 + l.val)
  | 0, hn => by
    have hv : ∀ r : Fin 4096, col0 (F := Ideal) (k0_pay4 (F := Ideal)) (ValueIdx.ix2 r 0) = psum (row m c r) (0 * 512) := fun r => by
      rw [col0_apply, pay4_apply, Nat.zero_mul, psum_zero]
    rw [outsAt0_A m c ⟨0, hn⟩ rfl]
    dsimp only
    rw [out_A, sout_A]
    exact ⟨fun r l => step_carry 0 _ (iblk_tri m c ⟨0, hn⟩) (row m c) (row_ne_top m hb) _ (iblk_rows m c ⟨0, hn⟩) _ hv r l,
      fun r l => step_out _ 0 (coord_val ⟨0, hn⟩) (by decide) _ (iblk_tri m c ⟨0, hn⟩) (row m c) (row_ne_top m hb) _ (iblk_rows m c ⟨0, hn⟩) _ hv r l⟩
  | n + 1, hn => by
    have h32 : n + 1 < 32 := lt_32 ⟨n + 1, hn⟩
    have hB : ¬(⟨n + 1, hn⟩ : Fin cfg0.N).val % 32 = 0 := by dsimp only; omega
    have ih := (outsAt_eq hb n (Nat.lt_of_succ_lt hn)).1
    have hv : ∀ r : Fin 4096, col0 (outsAt0 m c n (Nat.lt_of_succ_lt hn)).2 (ValueIdx.ix2 r 0) = psum (row m c r) ((n + 1) * 512) :=
      fun r => (col0_apply _ r).trans (ih r 0)
    rw [outsAt0_B m c ⟨n + 1, hn⟩ hB]
    dsimp only
    rw [out_B, sout_B]
    exact ⟨fun r l => step_carry (n + 1) _ (iblk_tri m c ⟨n + 1, hn⟩) (row m c) (row_ne_top m hb) _ (iblk_rows m c ⟨n + 1, hn⟩) _ hv r l,
      fun r l => step_out _ (n + 1) (coord_val ⟨n + 1, hn⟩) h32 _ (iblk_tri m c ⟨n + 1, hn⟩) (row m c) (row_ne_top m hb) _ (iblk_rows m c ⟨n + 1, hn⟩) _ hv r l⟩

/-! ## The result array -/

/-- Every row's running averages, as contents of the kernel's result array. -/
def averages (c : Dev nD) : Buf (Elt Ideal) ((c : Thread nD τ).loc main_v3) :=
  (fun i => avg (row m c (i 0)) (i 1).val : Vec Ideal S4096x16384 .f32)

/-- What a point writes back is its block of the averages. -/
theorem flushed_eq {c : Dev nD} (hb : Below m c) (t : Fin cfg0.N) (hf : (cfg0.win 2).flush t = true) :
    (dats m 0 c).flushed 2 t = ((cfg0.win 2).blk t).view.read (Elt Ideal) (averages m c) := by
  show (cfg0.win 2).cut (grid0.coords t) ((dats m 0 c).after 2 t) = _
  rw [after0_2]
  funext y
  have e : (cfg0.win 2).xinj (grid0.coords t) y = (ValueIdx.ix2 (y 0) (y 1) : S4096x512.Idx) := funext fun a => Fin.ext (by
    match a with
    | ⟨0, _⟩ => rfl
    | ⟨1, _⟩ => rfl)
  show (outsAt0 m c t.val t.isLt).1 ((cfg0.win 2).xinj (grid0.coords t) y) = averages m c (((cfg0.win 2).blk t).view.emb y)
  rw [e]
  refine ((outsAt_eq m hb t.val t.isLt).2 (y 0) (y 1)).trans ?_
  unfold averages
  have h0 : (((cfg0.win 2).blk t).view.emb y 0 : Fin 4096) = y 0 := Fin.ext (by
    show win0_2.index t (0 : Fin 2) * 4096 + 1 * (y 0).val = (y 0).val; rw [(idx2 t).1]; omega)
  have h1 : (((cfg0.win 2).blk t).view.emb y 1).val = t.val * 512 + (y 1).val := by
    show win0_2.index t (1 : Fin 2) * 512 + 1 * (y 1).val = _; rw [(idx2 t).2]; omega
  exact congrArg₂ (fun r j => avg (row m c r) j) h0.symm h1.symm

/-- An index lies in a point's block where its column does. -/
theorem mem_blk (t : Fin cfg0.N) (i : S4096x16384.Idx) (h : t.val * 512 ≤ (i 1).val ∧ (i 1).val < t.val * 512 + 512) :
    i ∈ ((cfg0.win 2).blk t).view.set := by
  have h0 : (i 0).val < 4096 := (i 0).isLt
  show i ∈ ((View.whole main_v3).slice (win0_2.rect t)).set
  rw [View.set_slice_whole, Rect.mem_set_unit]
  intro a
  match a with
  | ⟨0, _⟩ =>
    show win0_2.index t (0 : Fin 2) * 4096 ≤ (i 0).val ∧ (i 0).val < win0_2.index t (0 : Fin 2) * 4096 + 4096
    rw [(idx2 t).1, Nat.zero_mul, Nat.zero_add]
    exact ⟨Nat.zero_le _, h0⟩
  | ⟨1, _⟩ =>
    show win0_2.index t (1 : Fin 2) * 512 ≤ (i 1).val ∧ (i 1).val < win0_2.index t (1 : Fin 2) * 512 + 512
    rw [(idx2 t).2]; omega

/-- The points' blocks cover the result array, so it ends at the averages. -/
theorem final_eq {c : Dev nD} (hb : Below m c) : (dats m 0 c).arrAt 2 cfg0.N = averages m c :=
  (dats m 0 c).arrAt_eq_of_cover 2 (averages m c) (flushed_eq m hb) fun i => by
    have h1 : (i 1 : ℕ) < 16384 := (i 1).isLt
    have hN : (i 1 : ℕ) / 512 < cfg0.N := lt_of_lt_of_eq (by omega) N_0.symm
    have hi : (i 1 : ℕ) / 512 * 512 ≤ (i 1 : ℕ) ∧ (i 1 : ℕ) < (i 1 : ℕ) / 512 * 512 + 512 := by omega
    exact ⟨⟨(i 1 : ℕ) / 512, hN⟩, flush0_2 _, mem_blk ⟨_, hN⟩ i hi⟩

/-! ## The program's result -/

/-- A row of the argument, continued by zero. -/
def argRow (x : Vec Ideal S8x512x16384 .f32) (b : Fin 8) (h : Fin 512) : ℕ → EReal := ext fun j : Fin 16384 => x (ValueIdx.ix3 b h j)

/-- Every row's running averages, in the argument's own shape. -/
def result (x : Vec Ideal S8x512x16384 .f32) : Vec Ideal S8x512x16384 .f32 := fun i => avg (argRow x (i 0) (i 1)) (i 2).val

/-- The kernel's row `512 b + h` is the argument's row `(b, h)`. -/
theorem row_eq (c : Dev nD) (b : Fin 8) (h : Fin 512) (hr : b.val * 512 + h.val < 4096) :
    row m c ⟨b.val * 512 + h.val, hr⟩ = argRow (m ((c : Thread nD τ).loc main_arg0)) b h := by
  unfold row argRow
  refine congrArg ext (funext fun j => ?_)
  have e0 : (⟨(b.val * 512 + h.val) / 512, by omega⟩ : Fin 8) = b := Fin.ext (by dsimp only; omega)
  have e1 : (⟨(b.val * 512 + h.val) % 512, by omega⟩ : Fin 512) = h := Fin.ext (by dsimp only; omega)
  refine (V_rows m c ⟨b.val * 512 + h.val, hr⟩ j).trans ?_
  exact congrArg (m ((c : Thread nD τ).loc main_arg0) : Vec Ideal S8x512x16384 .f32) (congrArg₂ (fun p q => ValueIdx.ix3 p q j) e0 e1)

/-- The averages with the first axis split in two, at an index. -/
theorem averages_split (c : Dev nD) (i : S8x512x16384.Idx) :
    shapeCast S8x512x16384 (averages m c : Vec Ideal S4096x16384 .f32) shapeCasts_S4096x16384_S8x512x16384 i
      = result (m ((c : Thread nD τ).loc main_arg0)) i := by
  have h0 : (i 0).val < 8 := (i 0).isLt
  have h1 : (i 1).val < 512 := (i 1).isLt
  have hr : (i 0).val * 512 + (i 1).val < 4096 := by omega
  have hk : (S4096x16384.rowMajor (ValueIdx.ix2 (⟨(i 0).val * 512 + (i 1).val, hr⟩ : Fin 4096) (i 2 : Fin 16384))).val
      = (S8x512x16384.rowMajor i).val := by
    rw [Shape.rowMajor_val_two, Shape.rowMajor_val_three]
    rfl
  refine (shapeCast_apply (averages m c : Vec Ideal S4096x16384 .f32) shapeCasts_S4096x16384_S8x512x16384 i _ hk).trans ?_
  exact congrArg (fun g => avg g (i 2).val) (row_eq m c (i 0) (i 1) hr)

/-- The last line gives the result array the argument's shape. -/
theorem tail_eq {c : Dev nD} (hb : Below m c) :
    (Pipeline.afterTail₀ cfgs (dats m) 0 (V0 m) [hostOps1] c main_v4 : Vec Ideal S8x512x16384 .f32)
      = result (m ((c : Thread nD τ).loc main_arg0)) := by
  unfold Pipeline.afterTail₀
  simp only [hostOps1, List.flatten_cons, List.flatten_nil, List.append_nil]
  after_results
  funext i
  rw [show Pipeline.withArrays (cfgs 0).spec c (V0 m c) (fun w => (dats m 0 c).arrAt w (cfgs 0).N) (Proc.tc.devRef main_v3) = averages m c from
    (Pipeline.withArrays_arr (cfgs 0).spec (by decide) c (V0 m c) (fun w => (dats m 0 c).arrAt w (cfgs 0).N) 2).trans (final_eq m hb)]
  exact averages_split m c i

/-- The kernel's run: its result is every row's running averages, its argument is unchanged. -/
theorem run (hb : ∀ c, Below m c) : θ_run defs (onTc (τ := τ) (main (F := Ideal))) ⟨m, fun _ => 0, ρ⟩ fun r => ∀ c : Dev nD,
      r.2.mem ((c : Thread nD τ).loc main_v4) = result (m ((c : Thread nD τ).loc main_arg0))
      ∧ r.2.mem ((c : Thread nD τ).loc main_arg0) = m ((c : Thread nD τ).loc main_arg0) :=
  (θ_run defs _ _).mono (fun _ h c =>
      ⟨((h c).2 main_v4 (Pipeline.mem_restRefs_of main_v4 (by decide) (by decide))).trans (tail_eq m (hb c)),
        ((h c).2 main_arg0 (Pipeline.mem_restRefs_of main_arg0 (by decide) (by decide))).trans (W_main_arg0 m (dats m) c)⟩)
    (run_main m ρ)

end Cert.KernelIdeal.CumAvg

end
-- ==== Proof.Reference.lean ====
/- What the reference computes over the extended reals: every row's running averages. -/
module

public import proofs.«01_k».proof.Proof.KernelStep
public import proofs.«01_k».proof.Proof.Gen.ReferenceIdeal.Run
public import Idealize.ShloMosaic.Lib.WordArith
public import Idealize.ShloMosaic.Lib.IdealHost
public import Idealize.ShloMosaic.Lib.Quiescent

@[expose] public section

noncomputable section

namespace Cert.ReferenceIdeal.CumAvg

open Cert.ReferenceIdeal Cert.ReferenceIdeal.Gen Idealize.ShloMosaic Idealize.ShloMosaic.TcCoe Idealize.SL.Sem Cert.CumAvg

/-- A fold that adds each index's term is the sum of the terms. -/
theorem foldl_add {n : ℕ} (G : Fin n → EReal) : (List.finRange n).foldl (fun r k => r + G k) 0 = ∑ k, G k := by
  rw [Fin.sum_univ_def, List.sum_eq_foldl, List.foldl_map]

/-- A window of one row's width has that many places. -/
theorem numel_window (M : ℕ) : (⟨3, ![1, 1, M + 1]⟩ : Shape).numel = M + 1 := by
  simp [Shape.numel, Fin.prod_univ_succ]

/-- The place numbered `n` in such a window is `(0, 0, n)`. -/
theorem place_window {M : ℕ} (n : Fin (⟨3, ![1, 1, M + 1]⟩ : Shape).numel) :
    ((⟨3, ![1, 1, M + 1]⟩ : Shape).rowMajor.symm n 0).val = 0 ∧ ((⟨3, ![1, 1, M + 1]⟩ : Shape).rowMajor.symm n 1).val = 0
      ∧ ((⟨3, ![1, 1, M + 1]⟩ : Shape).rowMajor.symm n 2).val = n.val := by
  generalize hi : (⟨3, ![1, 1, M + 1]⟩ : Shape).rowMajor.symm n = i
  have e : ((⟨3, ![1, 1, M + 1]⟩ : Shape).rowMajor i).val = n.val := by rw [← hi, Equiv.apply_symm_apply]
  rw [Shape.rowMajor_val_three] at e
  have h0 : (i 0).val < 1 := (i 0).isLt
  have h1 : (i 1).val < 1 := (i 1).isLt
  have z0 : (i 0).val = 0 := by omega
  have z1 : (i 1).val = 0 := by omega
  refine ⟨z0, z1, ?_⟩
  rw [z0, z1, Nat.zero_mul, Nat.zero_add, Nat.zero_mul, Nat.zero_add] at e
  exact e

/-- The window sum that ends at each place of a row is the row's prefix sum there. -/
theorem window_sum {A B M : ℕ} (x : (⟨3, ![A, B, M + 1]⟩ : Shape).Idx → EReal)
    (h : (⟨3, ![A, B, M + 1]⟩ : Shape).ReduceWindows (![1, 1, M + 1] : Fin 3 → ℕ) ![1, 1, 1] ![0, 0, M] ![0, 0, 0] ⟨3, ![A, B, M + 1]⟩)
    (a : Fin A) (b : Fin B) (j : Fin (M + 1)) :
    Ideal.hostReduceWindowAdd (![1, 1, M + 1] : Fin 3 → ℕ) ![1, 1, 1] ![0, 0, M] ![0, 0, 0] h x 0 (ValueIdx.ix3 a b j)
      = psum (ext fun k : Fin (M + 1) => x (ValueIdx.ix3 a b k)) (j.val + 1) := by
  unfold Ideal.hostReduceWindowAdd Host.reduceWindow
  refine (foldl_add _).trans ?_
  rw [← sum_window _ j.isLt]
  refine Fintype.sum_equiv (finCongr (numel_window M)) _ _ fun n => ?_
  obtain ⟨w0, w1, w2⟩ := place_window n
  have hj := j.isLt
  have ha := a.isLt
  have hb := b.isLt
  have hn : n.val < M + 1 := lt_of_lt_of_eq n.isLt (numel_window M)
  show _ = if M ≤ j.val + n.val then ext (fun k : Fin (M + 1) => x (ValueIdx.ix3 a b k)) (j.val + n.val - M) else 0
  split
  · next hin =>
    have h2 := hin 2
    change M ≤ j.val * 1 + ((⟨3, ![1, 1, M + 1]⟩ : Shape).rowMajor.symm n 2).val
      ∧ j.val * 1 + ((⟨3, ![1, 1, M + 1]⟩ : Shape).rowMajor.symm n 2).val - M < M + 1 at h2
    rw [w2] at h2
    rw [if_pos (by omega), ext_of_lt _ (by omega : j.val + n.val - M < M + 1)]
    refine congrArg x (funext fun d => Fin.ext ?_)
    match d with
    | ⟨0, _⟩ =>
      show a.val * 1 + ((⟨3, ![1, 1, M + 1]⟩ : Shape).rowMajor.symm n 0).val - 0 = a.val
      rw [w0]; omega
    | ⟨1, _⟩ =>
      show b.val * 1 + ((⟨3, ![1, 1, M + 1]⟩ : Shape).rowMajor.symm n 1).val - 0 = b.val
      rw [w1]; omega
    | ⟨2, _⟩ =>
      show j.val * 1 + ((⟨3, ![1, 1, M + 1]⟩ : Shape).rowMajor.symm n 2).val - M = j.val + n.val - M
      rw [w2]; omega
  · next hin =>
    rw [if_neg fun hle => hin fun d => by
      match d with
      | ⟨0, _⟩ =>
        show 0 ≤ a.val * 1 + ((⟨3, ![1, 1, M + 1]⟩ : Shape).rowMajor.symm n 0).val
          ∧ a.val * 1 + ((⟨3, ![1, 1, M + 1]⟩ : Shape).rowMajor.symm n 0).val - 0 < A
        rw [w0]; omega
      | ⟨1, _⟩ =>
        show 0 ≤ b.val * 1 + ((⟨3, ![1, 1, M + 1]⟩ : Shape).rowMajor.symm n 1).val
          ∧ b.val * 1 + ((⟨3, ![1, 1, M + 1]⟩ : Shape).rowMajor.symm n 1).val - 0 < B
        rw [w1]; omega
      | ⟨2, _⟩ =>
        show M ≤ j.val * 1 + ((⟨3, ![1, 1, M + 1]⟩ : Shape).rowMajor.symm n 2).val
          ∧ j.val * 1 + ((⟨3, ![1, 1, M + 1]⟩ : Shape).rowMajor.symm n 2).val - M < M + 1
        rw [w2]; omega]

/-- The host's window sum from a zero, in those terms. -/
theorem host_window_sum {A B M : ℕ} {u : Shape} (x : FVec Ideal ⟨3, ![A, B, M + 1]⟩ .f32) (v : FVec Ideal u .f32) (hu : 0 < u.numel)
    (hv : v (Shape.Idx.first hu) = (0 : EReal))
    (h : (⟨3, ![A, B, M + 1]⟩ : Shape).ReduceWindows (![1, 1, M + 1] : Fin 3 → ℕ) ![1, 1, 1] ![0, 0, M] ![0, 0, 0] ⟨3, ![A, B, M + 1]⟩)
    (a : Fin A) (b : Fin B) (j : Fin (M + 1)) :
    Host.reduceWindowAdd (![1, 1, M + 1] : Fin 3 → ℕ) ![1, 1, 1] ![0, 0, M] ![0, 0, 0] x v h hu (ValueIdx.ix3 a b j)
      = psum (ext fun k : Fin (M + 1) => x (ValueIdx.ix3 a b k)) (j.val + 1) := by
  unfold Host.reduceWindowAdd
  rw [Ideal.hostReduceWindowAdd_def, hv]
  exact window_sum x h a b j

/-- One plus a column's number, read as a signed word, is the number of terms up to that column. -/
theorem count_eq {j : ℕ} (h : j < 16384) :
    Ideal.ofBits .f32 0x3F800000#32 + (((BitVec.ofNat 32 j).toInt : ℝ) : EReal) = (((j + 1 : ℕ) : ℝ) : EReal) := by
  rw [Ideal.ofBits_one_f32, WordArith.toInt_ofNat_small j (by omega)]
  norm_cast
  omega

/-- The reference's result array, as the run composes it. -/
def value (x : FVec Ideal S8x512x16384 .f32) : FVec Ideal S8x512x16384 .f32 :=
  Host.divf (Host.reduceWindowAdd ![1, 1, 16384] ![1, 1, 1] ![0, 0, 16383] ![0, 0, 0] x (broadcastInDim S_ ![] bcast_S_S_ (constant (F := Ideal) S_ .f32 0x00000000#32)) reduceWindows_S8x512x16384_S8x512x16384_w1s1p0_0_w1s1p0_0_w16384s1p16383_0 h_S_)
    (broadcastInDim S8x512x16384 ![0, 1, 2] bcast_S1x1x16384_S8x512x16384_0_1_2 (broadcastInDim S1x1x16384 ![2] bcast_S16384_S1x1x16384_2 (addf (broadcastInDim S16384 ![] bcast_S_S16384 (constant (F := Ideal) S_ .f32 0x3F800000#32)) (sitofp .f32 (iotaInDim S16384 32 0)))))

/-- The reference's result at an index is the average of the row's terms up to there. -/
theorem value_eq (x : FVec Ideal S8x512x16384 .f32) (a : Fin 8) (b : Fin 512) (j : Fin 16384) :
    value x (ValueIdx.ix3 a b j) = avg (ext fun k : Fin 16384 => x (ValueIdx.ix3 a b k)) j.val := by
  refine congrArg₂ Ideal.div ?_ ?_
  · exact host_window_sum (A := 8) (B := 512) (M := 16383) x _ h_S_ Ideal.ofBits_zero_f32 reduceWindows_S8x512x16384_S8x512x16384_w1s1p0_0_w1s1p0_0_w16384s1p16383_0 a b j
  · rw [broadcastInDim_apply _ _ _ (ValueIdx.ix3 a b j) (ValueIdx.ix3 0 0 j : S1x1x16384.Idx) (fun d => by
      match d with
      | ⟨0, _⟩ => rfl
      | ⟨1, _⟩ => rfl
      | ⟨2, _⟩ => rfl),
      broadcastInDim_apply _ _ _ (ValueIdx.ix3 0 0 j : S1x1x16384.Idx) (ValueIdx.ix1 j : S16384.Idx) (fun d => by
      match d with
      | ⟨0, _⟩ => rfl)]
    exact count_eq j.isLt

/-- The reference leaves every counter at zero: it has none. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems rfl r.2⟩) (Value.run m ρ)

end Cert.ReferenceIdeal.CumAvg

end
-- ==== Proof.Equation.lean ====
/- The kernel and the reference compute one array: every row's running averages, where the argument holds no `⊤`. -/
module

public import proofs.«01_k».proof.Defs
public import proofs.«01_k».proof.Proof.KernelValue
public import proofs.«01_k».proof.Proof.Reference

@[expose] public section

noncomputable section

namespace Cert.CumAvg

open Idealize.ShloMosaic Idealize.ShloMosaic.TcCoe Idealize.SL.Sem

/-- The precondition's broadcast is a legal one. -/
theorem pre_facts : Cert.Pre_below_infinity.Facts := ⟨by decide⟩

/-- The pattern the precondition compares with is `⊤`. -/
theorem ofBits_top : Ideal.ofBits .f32 0x7F800000#32 = ⊤ := by simp [Ideal.ofBits, Ideal.ieee]

/-- Under the precondition the argument holds no `⊤`. -/
theorem below_of_pre (m : (ℓ : Loc Cert.KernelIdeal.nD Cert.KernelIdeal.τ Cert.KernelIdeal.sig) → Buf (Elt Ideal) ℓ)
    (h : Cert.Pre_KernelIdeal_below_infinity (hPre_below_infinity := pre_facts) m) (c : Dev Cert.KernelIdeal.nD) :
    Cert.KernelIdeal.CumAvg.Below m c := by
  intro i htop
  have e : Ideal.cmp .olt ((m ((c.tc : Thread Cert.KernelIdeal.nD Cert.KernelIdeal.τ).loc Cert.KernelIdeal.main_arg0) :
      Vec Ideal Cert.KernelIdeal.S8x512x16384 .f32) i) (Ideal.ofBits .f32 0x7F800000#32) = 1#1 := congrFun (h c) i
  rw [htop, ofBits_top] at e
  simp [Ideal.cmp] at e

/-- The reference's result array is the kernel's. -/
theorem value_eq_result (x : FVec Ideal Cert.ReferenceIdeal.S8x512x16384 .f32) :
    Cert.ReferenceIdeal.CumAvg.value x = Cert.KernelIdeal.CumAvg.result x := by
  funext i
  rw [ValueIdx.eq_ix3 i]
  exact Cert.ReferenceIdeal.CumAvg.value_eq x (i 0) (i 1) (i 2)

/-- Both programs end with the running averages of the argument they share. -/
theorem algebraic : Cert.algebraic_KernelIdeal_ReferenceIdeal_pre_below_infinity (hKernelIdeal := Cert.KernelIdeal.Gen.facts)
    (hReferenceIdeal := Cert.ReferenceIdeal.Gen.facts) (hPre_below_infinity := pre_facts) := by
  intro m g m' g' hpre hargs
  refine ⟨fun c => Cert.KernelIdeal.CumAvg.result (m ((c.tc : Thread Cert.KernelIdeal.nD Cert.KernelIdeal.τ).loc Cert.KernelIdeal.main_arg0)),
    Cert.KernelIdeal.CumAvg.run m g (below_of_pre m hpre), ?_⟩
  refine (θ_run Cert.ReferenceIdeal.defs _ _).mono (fun r h c => ⟨(h c).1.trans ?_, (h c).2⟩) (Cert.ReferenceIdeal.Value.run m' g')
  exact (value_eq_result (m' ((c.tc : Thread Cert.ReferenceIdeal.nD Cert.ReferenceIdeal.τ).loc Cert.ReferenceIdeal.main_arg0))).trans
    (congrArg Cert.KernelIdeal.CumAvg.result (hargs c))

end Cert.CumAvg

end
-- ==== Proof.lean ====
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.CumAvg.pre_facts,
    fun m g _ => Cert.Kernel.Gen.frame m g,
    fun m g _ => Cert.KernelIdeal.Gen.frame m g,
    fun m g _ => Cert.KernelIdeal.Gen.frame m g,
    fun m g _ => Cert.ReferenceIdeal.CumAvg.frame m g,
    fun m g _ => Cert.ReferenceIdeal.CumAvg.frame m g,
    trivial,
    Cert.CumAvg.algebraic⟩

end Cert.Proof

end
